-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_arg0) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S262144x100 : Shape := ⟨2, ![262144, 100]⟩
abbrev S8192x100 : Shape := ⟨2, ![8192, 100]⟩

abbrev nBuf : Space → Nat
  | .hbm => 2
  | .vmem => 4
  | .smem => 0
  | _ => 0

abbrev bufTy : (tb : Table) → Fin (tcTables nBuf tb) → BufTy
  | .hbm, ⟨0, _⟩ => ⟨S262144x100, .f32⟩
  | .hbm, ⟨1, _⟩ => ⟨S262144x100, .f32⟩
  | .local _ .vmem, ⟨0, _⟩ => ⟨S8192x100, .f32⟩
  | .local _ .vmem, ⟨1, _⟩ => ⟨S8192x100, .f32⟩
  | .local _ .vmem, ⟨2, _⟩ => ⟨S8192x100, .f32⟩
  | .local _ .vmem, ⟨3, _⟩ => ⟨S8192x100, .f32⟩
  | _, _ => ⟨S262144x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S262144x100 : Shape := ⟨2, ![262144, 100]⟩

abbrev nBuf : Space → Nat
  | .hbm => 1
  | .vmem => 0
  | .smem => 0
  | _ => 0

abbrev bufTy : (tb : Table) → Fin (tcTables nBuf tb) → BufTy
  | .hbm, ⟨0, _⟩ => ⟨S262144x100, .f32⟩
  | _, _ => ⟨S262144x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.KernelIdealCopy.lean ====
/- The blocked copy of `KernelIdeal`: after the run its result array holds the argument array.
   One grid point moves one block of 8192 rows; the 32 blocks fill the 262144 rows. Stated at any float values, since the
   kernel does no arithmetic. -/
module

public import proofs.«01_k».proof.Proof.Gen.KernelIdeal.Value
public import Idealize.ShloMosaic.Lib.Pipeline.ValueKit.Geometry

@[expose] public section

noncomputable section

namespace Cert.KernelIdeal.Copy

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Device `c`'s argument array, as contents of its result array: the two arrays have one shape and one element type. -/
abbrev arg (c : Dev nD) : Buf (Elt F) ((c : Thread nD τ).loc main_v0) := m ((c : Thread nD τ).loc main_arg0)

/-- The body's accesses start at the staging buffer's origin. -/
theorem origin : (![0, 0] : Fin 2 → Nat) = fun _ => 0 := by
  funext a
  fin_cases a <;> rfl

/-- What the body leaves in the output's staging buffer is the block it loaded. -/
theorem body_copies (x : Vec F S8192x100 .f32) : out0_1 x = x := by
  unfold out0_1
  rw [View.canon_unit_zero origin, View.ld_unit_zero origin]

/-- Grid point `t` writes back block `t` of the argument array. -/
theorem point_copies (c : Dev nD) (t : Fin cfg0.N) :
    (dats m 0 c).flushed 1 t = ((cfg0.win 1).blk t).view.read (Elt F) (arg m c) := by
  rw [Value.flushed1, body_copies]
  rfl

/-- Every block of the result array is some grid point's: the block of rows `8192 b …` is point `b`'s. -/
theorem blocks_fill : (cfg0.win 1).Covers :=
  (by decide +kernel : win0_1.Covers)

/-- After the last grid point the result array is the argument array. -/
theorem result_eq (c : Dev nD) : (dats m 0 c).arrAt 1 cfg0.N = arg m c :=
  (dats m 0 c).arrAt_eq_of_cover 1 (arg m c) (fun t _ => point_copies m c t)
    (blocks_fill.cover _ (Memref.isWhole_whole _))

/-- THE RUN: the program terminates with the result array equal to the argument array, which is unchanged. -/
theorem run : θ_run defs (onTc (τ := τ) (main (F := F))) ⟨m, fun _ => 0, ρ⟩ fun r => ∀ c : Dev nD,
      r.2.mem ((c : Thread nD τ).loc main_v0) = arg m c
      ∧ r.2.mem ((c : Thread nD τ).loc main_arg0) = m ((c : Thread nD τ).loc main_arg0) :=
  (θ_run defs _ _).mono (fun _ h c => ⟨(h c).1.trans (result_eq m c), (h c).2⟩) (Value.run_blocks m ρ)

end Cert.KernelIdeal.Copy

end
-- ==== Proof.ReferenceRun.lean ====
/- The run of `Reference`, the identity: a host program of no operation, whose result is its argument. -/
module

public import proofs.«01_k».proof.Proof.Gen.Reference
public import Idealize.ShloMosaic.Lib.StableHlo.Run
public import Idealize.ShloMosaic.Lib.Quiescent

@[expose] public section

noncomputable section

namespace Cert.Reference.Identity

open Cert.Reference Cert.Reference.Gen Idealize.ShloMosaic Idealize.ShloMosaic.TcCoe Idealize.SL.Sem

variable {F : FTy → Type} [FloatOps F]
variable (m : (ℓ : Loc nD τ sig) → Buf (Elt F) ℓ) (ρ : Dev nD → PrngReg)

/-- THE RUN: the program terminates with its argument, which is also its result, unchanged. -/
theorem run : θ_run (defs (F := F)) (onTc (τ := τ) (main (F := F))) ⟨m, fun _ => 0, ρ⟩ fun r => ∀ c : Dev nD,
      r.2.mem ((c : Thread nD τ).loc main_arg0) = m ((c : Thread nD τ).loc main_arg0) :=
  (θ_run defs _ _).mono (fun _ h c => h c main_arg0)
    (StableHlo.run_seq (by decide) (by decide) defs main (fun _ => []) (fun _ => rfl) (fun _ => trivial) m ρ)

/-- THE FRAME: the argument ends unchanged, and every semaphore counter at zero, since the program has none. -/
theorem frame : θ_run (defs (F := F)) (onTc (τ := τ) (main (F := F))) ⟨m, fun _ => 0, ρ⟩ fun r => (∀ c : Dev nD,
      r.2.mem ((c : Thread nD τ).loc main_arg0) = m ((c : Thread nD τ).loc main_arg0))
      ∧ r.2.sem = fun _ => 0 :=
  (θ_run defs _ _).mono (fun r h => ⟨h, sem_eq_zero_of_no_sems (by decide) r.2⟩) (run m ρ)

end Cert.Reference.Identity

end
-- ==== Proof.ReferenceIdealRun.lean ====
/- The run of `ReferenceIdeal`, the identity: a host program of no operation, whose result is its argument. -/
module

public import proofs.«01_k».proof.Proof.Gen.ReferenceIdeal
public import Idealize.ShloMosaic.Lib.StableHlo.Run
public import Idealize.ShloMosaic.Lib.Quiescent

@[expose] public section

noncomputable section

namespace Cert.ReferenceIdeal.Identity

open Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- THE RUN: the program terminates with its argument, which is also its result, unchanged. -/
theorem run : θ_run (defs (F := F)) (onTc (τ := τ) (main (F := F))) ⟨m, fun _ => 0, ρ⟩ fun r => ∀ c : Dev nD,
      r.2.mem ((c : Thread nD τ).loc main_arg0) = m ((c : Thread nD τ).loc main_arg0) :=
  (θ_run defs _ _).mono (fun _ h c => h c main_arg0)
    (StableHlo.run_seq (by decide) (by decide) defs main (fun _ => []) (fun _ => rfl) (fun _ => trivial) m ρ)

/-- THE FRAME: the argument ends unchanged, and every semaphore counter at zero, since the program has none. -/
theorem frame : θ_run (defs (F := F)) (onTc (τ := τ) (main (F := F))) ⟨m, fun _ => 0, ρ⟩ fun r => (∀ c : Dev nD,
      r.2.mem ((c : Thread nD τ).loc main_arg0) = m ((c : Thread nD τ).loc main_arg0))
      ∧ r.2.sem = fun _ => 0 :=
  (θ_run defs _ _).mono (fun r h => ⟨h, sem_eq_zero_of_no_sems (by decide) r.2⟩) (run m ρ)

end Cert.ReferenceIdeal.Identity

end
-- ==== Proof.lean ====
module

public import proofs.«01_k».proof.Defs
public import proofs.«01_k».proof.Proof.KernelCopy
public import proofs.«01_k».proof.Proof.KernelIdealCopy
public import proofs.«01_k».proof.Proof.ReferenceRun
public import proofs.«01_k».proof.Proof.ReferenceIdealRun

@[expose] public section

noncomputable section

namespace Cert.Proof

open Idealize.ShloMosaic Idealize.SL.Sem Cert.Kernel

/-- Over the extended reals the kernel's result is its argument, and so is the reference's. -/
theorem algebraic : Cert.algebraic_KernelIdeal_ReferenceIdeal := by
  intro m ρ m' ρ' _ agree
  exact ⟨Cert.KernelIdeal.Copy.arg m, Cert.KernelIdeal.Copy.run (F := Ideal) m ρ,
    (θ_run Cert.ReferenceIdeal.defs _ _).mono (fun _ h c => ⟨(h c).trans (agree c), h c⟩)
      (Cert.ReferenceIdeal.Identity.run (F := Ideal) m' ρ')⟩

/-- On the words of memory the kernel's result is its argument, and so is the reference's. -/
theorem bitexact : Cert.bitexact_Kernel_Reference := by
  intro m ρ m' ρ' _ agree
  exact ⟨Cert.Kernel.Copy.arg m, Cert.Kernel.Copy.run (F := Bits) m ρ,
    (θ_run Cert.Reference.defs _ _).mono (fun _ h c => ⟨(h c).trans (agree c), h c⟩)
      (Cert.Reference.Identity.run (F := Bits) m' ρ')⟩

/-- Every claim: the four frames, the idealization that rewrote nothing, and the two value claims. -/
theorem claim : Cert.Claim :=
  ⟨Cert.Kernel.Gen.facts, Cert.KernelIdeal.Gen.facts, Cert.ReferenceIdeal.Gen.facts, Cert.Reference.Gen.facts,
    fun m ρ _ => Cert.Kernel.Gen.frame m ρ, fun m ρ _ => Cert.KernelIdeal.Gen.frame m ρ,
    fun m ρ _ => Cert.ReferenceIdeal.Identity.frame m ρ, fun m ρ _ => Cert.Reference.Identity.frame m ρ,
    trivial, algebraic, bitexact⟩

end Cert.Proof

end
